-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_vectors [hPre_finite_vectors : Cert.Pre_finite_vectors.Facts] (m : (ℓ : Loc Cert.KernelIdeal.nD Cert.KernelIdeal.τ Cert.KernelIdeal.sig) → Buf (Elt Ideal) ℓ) : Prop :=
  ∀ c : Dev Cert.KernelIdeal.nD,
    (Cert.Pre_finite_vectors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_vectors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_vectors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_vectors [hPre_finite_vectors : Cert.Pre_finite_vectors.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_vectors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_vectors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_vectors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_vectors [hKernelIdeal : Cert.KernelIdeal.Facts] [hPre_finite_vectors : Cert.Pre_finite_vectors.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_vectors m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_vectors [hReferenceIdeal : Cert.ReferenceIdeal.Facts] [hPre_finite_vectors : Cert.Pre_finite_vectors.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_vectors m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_sqrt3" .f32 0x3F13CD3A#32 (((Real.sqrt 3)⁻¹ : ℝ) : EReal)

def algebraic_KernelIdeal_ReferenceIdeal_pre_finite_vectors [hKernelIdeal : Cert.KernelIdeal.Facts] [hReferenceIdeal : Cert.ReferenceIdeal.Facts] [hPre_finite_vectors : Cert.Pre_finite_vectors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_vectors m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_vectors : Cert.Pre_finite_vectors.Facts),
    quiescent_Kernel (hKernel := hKernel)
    ∧ quiescent_KernelIdeal (hKernelIdeal := hKernelIdeal)
    ∧ quiescent_KernelIdeal_pre_finite_vectors (hKernelIdeal := hKernelIdeal) (hPre_finite_vectors := hPre_finite_vectors)
    ∧ quiescent_ReferenceIdeal (hReferenceIdeal := hReferenceIdeal)
    ∧ quiescent_ReferenceIdeal_pre_finite_vectors (hReferenceIdeal := hReferenceIdeal) (hPre_finite_vectors := hPre_finite_vectors)
    ∧ preserves_Kernel_KernelIdeal
    ∧ algebraic_KernelIdeal_ReferenceIdeal_pre_finite_vectors (hKernelIdeal := hKernelIdeal) (hReferenceIdeal := hReferenceIdeal) (hPre_finite_vectors := hPre_finite_vectors)
-- ==== Pre_finite_vectors.lean ====
abbrev S100000x128 : Shape := ⟨2, ![100000, 128]⟩
abbrev S100000x128x3 : Shape := ⟨3, ![100000, 128, 3]⟩
abbrev S100000x1 : Shape := ⟨2, ![100000, 1]⟩
abbrev S100000x3 : Shape := ⟨2, ![100000, 3]⟩
abbrev S128x128 : Shape := ⟨2, ![128, 128]⟩
abbrev S128 : Shape := ⟨1, ![128]⟩
abbrev S_ : Shape := ⟨0, ![]⟩

class Facts : Prop where
  bcast_S_S100000x128x3 : S_.BroadcastsInDim S100000x128x3 (![] : Fin 0 → Fin S100000x128x3.rank)
  bcast_S_S100000x3 : S_.BroadcastsInDim S100000x3 (![] : Fin 0 → Fin S100000x3.rank)
  bcast_S_S128x128 : S_.BroadcastsInDim S128x128 (![] : Fin 0 → Fin S128x128.rank)

variable [Facts]

def fn {F : FTy → Type} [FloatOps F] (main_arg0 : FVec F S100000x128 .f32) (main_arg1 : FVec F S100000x128x3 .f32) (main_arg2 : FVec F S100000x1 .f32) (main_arg3 : FVec F S100000x3 .f32) (main_arg4 : FVec F S128x128 .f32) (main_arg5 : FVec F S128x128 .f32) (main_arg6 : FVec F S128x128 .f32) (main_arg7 : FVec F S128x128 .f32) (main_arg8 : FVec F S128 .f32) : IVec S100000x128x3 1 × IVec S100000x3 1 × IVec S128x128 1 :=
  let main_v0 : FVec F S100000x128x3 .f32 := Host.absf main_arg1
  let main_cst : FVec F S_ .f32 := constant S_ .f32 0x7F800000#32
  let main_v1 : FVec F S100000x128x3 .f32 := broadcastInDim S100000x128x3 ![] bcast_S_S100000x128x3 main_cst
  let main_v2 : IVec S100000x128x3 1 := cmpf .olt main_v0 main_v1
  let main_v3 : FVec F S100000x3 .f32 := Host.absf main_arg3
  let main_cst_0 : FVec F S_ .f32 := constant S_ .f32 0x7F800000#32
  let main_v4 : FVec F S100000x3 .f32 := broadcastInDim S100000x3 ![] bcast_S_S100000x3 main_cst_0
  let main_v5 : IVec S100000x3 1 := cmpf .olt main_v3 main_v4
  let main_v6 : FVec F S128x128 .f32 := Host.absf main_arg5
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  (main_v2, main_v5, main_v8)
-- ==== Kernel.lean ====
abbrev S100000x128 : Shape := ⟨2, ![100000, 128]⟩
abbrev S100000x128x3 : Shape := ⟨3, ![100000, 128, 3]⟩
abbrev S100000x1 : Shape := ⟨2, ![100000, 1]⟩
abbrev S100000x3 : Shape := ⟨2, ![100000, 3]⟩
abbrev S128x128 : Shape := ⟨2, ![128, 128]⟩
abbrev S128 : Shape := ⟨1, ![128]⟩
abbrev S4x512 : Shape := ⟨2, ![4, 512]⟩
abbrev S3x100000x128 : Shape := ⟨3, ![3, 100000, 128]⟩
abbrev S1x100000 : Shape := ⟨2, ![1, 100000]⟩
abbrev S3x100000 : Shape := ⟨2, ![3, 100000]⟩
abbrev S4x100000 : Shape := ⟨2, ![4, 100000]⟩
abbrev S4x20x5000 : Shape := ⟨3, ![4, 20, 5000]⟩
abbrev S20x4x5000 : Shape := ⟨3, ![20, 4, 5000]⟩
abbrev S1x128 : Shape := ⟨2, ![1, 128]⟩
abbrev S100000x512 : Shape := ⟨2, ![100000, 512]⟩
abbrev S5000x128 : Shape := ⟨2, ![5000, 128]⟩
abbrev S3x5000x128 : Shape := ⟨3, ![3, 5000, 128]⟩
abbrev S1x4x5000 : Shape := ⟨3, ![1, 4, 5000]⟩
abbrev S5000x512 : Shape := ⟨2, ![5000, 512]⟩
abbrev S512x128 : Shape := ⟨2, ![512, 128]⟩
abbrev S768x384 : Shape := ⟨2, ![768, 384]⟩
abbrev S128x384 : Shape := ⟨2, ![128, 384]⟩
abbrev S4x5000 : Shape := ⟨2, ![4, 5000]⟩
abbrev S1x5000x128 : Shape := ⟨3, ![1, 5000, 128]⟩
abbrev S5000x768 : Shape := ⟨2, ![5000, 768]⟩
abbrev S5000x384 : Shape := ⟨2, ![5000, 384]⟩

abbrev nBuf : Space → Nat
  | .hbm => 18
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S100000x128x3, .f32⟩
  | .hbm, ⟨2, _⟩ => ⟨S100000x1, .f32⟩
  | .hbm, ⟨3, _⟩ => ⟨S100000x3, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S4x512, .bf16⟩
  | .hbm, ⟨10, _⟩ => ⟨S3x100000x128, .f32⟩
  | .hbm, ⟨11, _⟩ => ⟨S1x100000, .f32⟩
  | .hbm, ⟨12, _⟩ => ⟨S3x100000, .f32⟩
  | .hbm, ⟨13, _⟩ => ⟨S4x100000, .f32⟩
  | .hbm, ⟨14, _⟩ => ⟨S4x20x5000, .f32⟩
  | .hbm, ⟨15, _⟩ => ⟨S20x4x5000, .f32⟩
  | .hbm, ⟨16, _⟩ => ⟨S1x128, .f32⟩
  | .hbm, ⟨17, _⟩ => ⟨S100000x512, .f32⟩
  | .local _ .vmem, ⟨0, _⟩ => ⟨S5000x128, .f32⟩
  | .local _ .vmem, ⟨1, _⟩ => ⟨S5000x128, .f32⟩
  | .local _ .vmem, ⟨2, _⟩ => ⟨S3x5000x128, .f32⟩
  | .local _ .vmem, ⟨3, _⟩ => ⟨S3x5000x128, .f32⟩
  | .local _ .vmem, ⟨4, _⟩ => ⟨S1x4x5000, .f32⟩
  | .local _ .vmem, ⟨5, _⟩ => ⟨S1x4x5000, .f32⟩
  | .local _ .vmem, ⟨6, _⟩ => ⟨S4x512, .bf16⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S5000x512, .f32⟩
  | .local _ .vmem, ⟨13, _⟩ => ⟨S5000x512, .f32⟩
  | .local _ .vmem, ⟨14, _⟩ => ⟨S512x128, .bf16⟩
  | .local _ .vmem, ⟨15, _⟩ => ⟨S768x384, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x5000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "inv_sqrt3" => some (((Real.sqrt 3)⁻¹ : ℝ) : EReal)
  | _ => none
-- ==== ReferenceIdeal.lean ====
abbrev S100000x128 : Shape := ⟨2, ![100000, 128]⟩
abbrev S100000x128x3 : Shape := ⟨3, ![100000, 128, 3]⟩
abbrev S100000x1 : Shape := ⟨2, ![100000, 1]⟩
abbrev S100000x3 : Shape := ⟨2, ![100000, 3]⟩
abbrev S128x128 : Shape := ⟨2, ![128, 128]⟩
abbrev S128 : Shape := ⟨1, ![128]⟩
abbrev S_ : Shape := ⟨0, ![]⟩
abbrev S100000x128x1 : Shape := ⟨3, ![100000, 128, 1]⟩
abbrev S100000x1x3 : Shape := ⟨3, ![100000, 1, 3]⟩
abbrev S100000x1x1 : Shape := ⟨3, ![100000, 1, 1]⟩
abbrev S1x128 : Shape := ⟨2, ![1, 128]⟩
abbrev S128x100000x3 : Shape := ⟨3, ![128, 100000, 3]⟩
abbrev S100000x384 : Shape := ⟨2, ![100000, 384]⟩
abbrev S100000x512 : Shape := ⟨2, ![100000, 512]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128x3, .f32⟩
  | .hbm, ⟨2, _⟩ => ⟨S100000x1, .f32⟩
  | .hbm, ⟨3, _⟩ => ⟨S100000x3, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S100000x128, .f32⟩
  | .hbm, ⟨18, _⟩ => ⟨S100000x128x1, .f32⟩
  | .hbm, ⟨19, _⟩ => ⟨S100000x1x3, .f32⟩
  | .hbm, ⟨20, _⟩ => ⟨S100000x128x3, .f32⟩
  | .hbm, ⟨21, _⟩ => ⟨S100000x128x3, .f32⟩
  | .hbm, ⟨22, _⟩ => ⟨S100000x128x3, .f32⟩
  | .hbm, ⟨23, _⟩ => ⟨S100000x1x1, .f32⟩
  | .hbm, ⟨24, _⟩ => ⟨S100000x128x3, .f32⟩
  | .hbm, ⟨25, _⟩ => ⟨S100000x128x3, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S128x100000x3, .f32⟩
  | .hbm, ⟨33, _⟩ => ⟨S100000x128x3, .f32⟩
  | .hbm, ⟨34, _⟩ => ⟨S128x100000x3, .f32⟩
  | .hbm, ⟨35, _⟩ => ⟨S100000x128x3, .f32⟩
  | .hbm, ⟨36, _⟩ => ⟨S100000x128x3, .f32⟩
  | .hbm, ⟨37, _⟩ => ⟨S100000x384, .f32⟩
  | .hbm, ⟨38, _⟩ => ⟨S100000x512, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Weights.lean ====
module

public import proofs.«01_k».proof.Proof.Gen.KernelIdeal.Value
public import Idealize.ShloMosaic.Lib.Pipeline.ValueKit
public import Idealize.ShloMosaic.Lib.Pointwise
public import Idealize.ShloMosaic.Lib.Claim

/-! The kernel's two weight stacks. At its first grid point the kernel lays the four weight matrices out in two
scratch buffers, and every later point reads them there: the first stack is `w_ss` over three scaled copies of `w_vv`,
the second spreads `w_sv` and `w_vs` over the interleaved columns of the three vector components. -/

@[expose] public section

set_option maxRecDepth 16384

noncomputable section

namespace Cert.KernelIdeal.Weights

open Cert.KernelIdeal Cert.KernelIdeal.Gen Idealize.ShloMosaic Idealize.ShloMosaic.TcCoe Idealize.SL.Sem

/-- The scale of the contracted vector product: one over the square root of three. -/
abbrev scale : EReal := (((Real.sqrt 3)⁻¹ : ℝ) : EReal)

/-- The first weight stack: rows 0 to 127 are `wss`, and each of the three following blocks of 128 rows is `wvv`
times the scale. -/
def stack0 (wss wvv : FVec Ideal S128x128 .f32) : FVec Ideal S512x128 .bf16 := fun y =>
  if (y 0 : ℕ) < 128 then wss (ix2 ⟨(y 0 : ℕ) % 128, Nat.mod_lt _ (by decide)⟩ (y 1))
  else wvv (ix2 ⟨(y 0 : ℕ) % 128, Nat.mod_lt _ (by decide)⟩ (y 1)) * scale

/-- The second weight stack: block `i` of 128 rows holds `wsv` (for `i < 3`) or `wvs` (for `3 ≤ i`) in the columns whose
number is `i` modulo three, column `3 v + i` holding the matrix's column `v`, and zero in the other columns. -/
def stack1 (wsv wvs : FVec Ideal S128x128 .f32) : FVec Ideal S768x384 .bf16 := fun y =>
  if (y 1 : ℕ) % 3 = (y 0 : ℕ) / 128 % 3 then
    (if (y 0 : ℕ) < 384 then wsv else wvs) (ix2 ⟨(y 0 : ℕ) % 128, Nat.mod_lt _ (by decide)⟩
      ⟨(y 1 : ℕ) / 3, by have h : (y 1 : ℕ) < 384 := (y 1).isLt; omega⟩)
  else 0

/-- The named constant, at the ideal instance, is the scale. -/
theorem named_scale : (Named.named κ "inv_sqrt3" 0x3F13CD3A#32 : Ideal .f32) = scale :=
  IdealRules.named_const.ideal_named_scalar _ _ _ _ rfl

/-- The comparison of an index word below 384 with three times a row number plus an offset decides the equation of the
numbers. -/
theorem select_word {α : Type} (j : Fin 384) (k : Fin 128) (i : ℕ) (hi : i < 3) (a b : α) :
    Scalar.select (IntOp.cmpi .eq (BitVec.ofNat 32 (j : ℕ))
        (IntOp.addi (IntOp.muli (3#32) (BitVec.ofNat 32 (k : ℕ))) (BitVec.ofNat 32 i))) a b
      = if (j : ℕ) = 3 * k + i then a else b := by
  have hj := j.isLt
  have hk := k.isLt
  rw [WordCmp.cmpi_eq_eq_toNat, WordCmp.select_ofBool]
  simp only [IntOp.addi, IntOp.muli, BitVec.toNat_add, BitVec.toNat_mul, BitVec.toNat_ofNat, decide_eq_true_eq]
  have e : (j : ℕ) % 2 ^ 32 = (3 % 2 ^ 32 * ((k : ℕ) % 2 ^ 32) % 2 ^ 32 + i % 2 ^ 32) % 2 ^ 32 ↔ (j : ℕ) = 3 * k + i := by
    omega
  exact if_congr e rfl rfl

/-- A sum of entries kept where `j = 3 k + i` is the entry at `j / 3` when `j` is `i` modulo three, and zero
otherwise. -/
theorem sum_pick (j : Fin 384) (i : ℕ) (hi : i < 3) (w : Fin 128 → EReal) :
    (∑ k : Fin 128, Scalar.select (IntOp.cmpi .eq (BitVec.ofNat 32 (j : ℕ))
        (IntOp.addi (IntOp.muli (3#32) (BitVec.ofNat 32 (k : ℕ))) (BitVec.ofNat 32 i))) (w k) 0)
      = if (j : ℕ) % 3 = i then w ⟨(j : ℕ) / 3, by have := j.isLt; omega⟩ else 0 := by
  have hj := j.isLt
  simp only [select_word j _ i hi]
  split
  · rename_i h
    rw [Finset.sum_eq_single (⟨(j : ℕ) / 3, by omega⟩ : Fin 128)]
    · rw [if_pos (by show (j : ℕ) = 3 * ((j : ℕ) / 3) + i; omega)]
    · intro k _ hk
      rw [if_neg]
      intro he
      exact hk (Fin.ext (by show (k : ℕ) = (j : ℕ) / 3; omega))
    · intro h'; exact absurd (Finset.mem_univ _) h'
  · rename_i h
    refine Finset.sum_eq_zero fun k _ => ?_
    rw [if_neg (by omega)]

/-- The first stack in its top block is `wss`. -/
theorem stack0_top (wss wvv : FVec Ideal S128x128 .f32) (y : S512x128.Idx) (u v : Fin 128) (h0 : (y 0 : ℕ) = u)
    (h1 : (y 1 : ℕ) = v) : stack0 wss wvv y = wss (ix2 u v) := by
  have hu := u.isLt
  unfold stack0
  rw [if_pos (by omega)]
  refine congrArg wss ((ix2_inj ..).2 ⟨Fin.ext ?_, Fin.ext h1⟩)
  show (y 0 : ℕ) % 128 = u
  omega

/-- The first stack in each lower block is `wvv` times the scale. -/
theorem stack0_low (wss wvv : FVec Ideal S128x128 .f32) (y : S512x128.Idx) (k : ℕ) (u v : Fin 128)
    (h0 : (y 0 : ℕ) = 128 * (k + 1) + u) (h1 : (y 1 : ℕ) = v) : stack0 wss wvv y = wvv (ix2 u v) * scale := by
  have hu := u.isLt
  unfold stack0
  rw [if_neg (by omega)]
  refine congrArg (fun z => wvv z * scale) ((ix2_inj ..).2 ⟨Fin.ext ?_, Fin.ext h1⟩)
  show (y 0 : ℕ) % 128 = u
  omega

/-- The second stack in one of its first three blocks. -/
theorem stack1_top (wsv wvs : FVec Ideal S128x128 .f32) (y : S768x384.Idx) (i : ℕ) (hi : i < 3) (u : Fin 128)
    (j : Fin 384) (h0 : (y 0 : ℕ) = 128 * i + u) (h1 : (y 1 : ℕ) = j) :
    stack1 wsv wvs y = if (j : ℕ) % 3 = i then wsv (ix2 u ⟨(j : ℕ) / 3, by have := j.isLt; omega⟩) else 0 := by
  have hu := u.isLt
  unfold stack1
  refine if_congr (by rw [h1]; omega) ?_ rfl
  rw [if_pos (by omega)]
  refine congrArg wsv ((ix2_inj ..).2 ⟨Fin.ext ?_, Fin.ext ?_⟩)
  · show (y 0 : ℕ) % 128 = u
    omega
  · show (y 1 : ℕ) / 3 = (j : ℕ) / 3
    rw [h1]

/-- The second stack in one of its last three blocks. -/
theorem stack1_low (wsv wvs : FVec Ideal S128x128 .f32) (y : S768x384.Idx) (i : ℕ) (hi : i < 3) (u : Fin 128)
    (j : Fin 384) (h0 : (y 0 : ℕ) = 384 + 128 * i + u) (h1 : (y 1 : ℕ) = j) :
    stack1 wsv wvs y = if (j : ℕ) % 3 = i then wvs (ix2 u ⟨(j : ℕ) / 3, by have := j.isLt; omega⟩) else 0 := by
  have hu := u.isLt
  unfold stack1
  refine if_congr (by rw [h1]; omega) ?_ rfl
  rw [if_neg (by omega)]
  refine congrArg wvs ((ix2_inj ..).2 ⟨Fin.ext ?_, Fin.ext ?_⟩)
  · show (y 0 : ℕ) % 128 = u
    omega
  · show (y 1 : ℕ) / 3 = (j : ℕ) / 3
    rw [h1]

variable (m : (ℓ : Loc nD τ sig) → Buf (Elt Ideal) ℓ)

/-- Every window's block index at every grid point. -/
theorem idx : ∀ t : Fin cfg0.N, win0_0.index t = ![t.val, 0] ∧ win0_1.index t = ![0, t.val, 0]
    ∧ win0_2.index t = ![t.val, 0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val, 0] :=
  (by decide +kernel : ∀ t : Fin grid0.N, _)

/-- The window of `w_ss` holds the whole matrix at every point. -/
theorem block4 (c : Dev nD) (t : Fin cfg0.N) : iblk m c 4 t = m ((c : Thread nD τ).loc main_arg4) := by
  blk_ext! [iblk, V, idx t]

/-- The window of `w_vv` holds the whole matrix at every point. -/
theorem block5 (c : Dev nD) (t : Fin cfg0.N) : iblk m c 5 t = m ((c : Thread nD τ).loc main_arg5) := by
  blk_ext! [iblk, V, idx t]

/-- The window of `w_sv` holds the whole matrix at every point. -/
theorem block6 (c : Dev nD) (t : Fin cfg0.N) : iblk m c 6 t = m ((c : Thread nD τ).loc main_arg6) := by
  blk_ext! [iblk, V, idx t]

/-- The window of `w_vs` holds the whole matrix at every point. -/
theorem block7 (c : Dev nD) (t : Fin cfg0.N) : iblk m c 7 t = m ((c : Thread nD τ).loc main_arg7) := by
  blk_ext! [iblk, V, idx t]

/-- After the first point the first scratch buffer holds the first weight stack. -/
theorem first0 (c : Dev nD) (t : Fin cfg0.N) (h : t.val % 20 = 0) : (outsAt0 m c t.val t.isLt).2.1
    = stack0 (m ((c : Thread nD τ).loc main_arg4)) (m ((c : Thread nD τ).loc main_arg5)) := by
  rw [outsAt0_A m c t h]
  frame_out
  simp only [block4, block5]
  generalize m ((c : Thread nD τ).loc main_arg4) = wss
  generalize m ((c : Thread nD τ).loc main_arg5) = wvv
  funext y
  canon_tiles x h
  · idx_vars x
    rw [stack0_low wss wvv y 2 x0 x1 h0 h1]
    pointwise [k0_pay7, k0_pay4, named_scale]
  · idx_vars x
    rw [stack0_low wss wvv y 1 x0 x1 h0 h1]
    pointwise [k0_pay6, k0_pay4, named_scale]
  · idx_vars x
    rw [stack0_low wss wvv y 0 x0 x1 h0 h1]
    pointwise [k0_pay5, k0_pay4, named_scale]
  · idx_vars x
    rw [stack0_top wss wvv y x0 x1 (by omega) h1]
    pointwise [k0_pay3]

/-- After the first point the second scratch buffer holds the second weight stack. -/
theorem first1 (c : Dev nD) (t : Fin cfg0.N) (h : t.val % 20 = 0) : (outsAt0 m c t.val t.isLt).2.2
    = stack1 (m ((c : Thread nD τ).loc main_arg6)) (m ((c : Thread nD τ).loc main_arg7)) := by
  rw [outsAt0_A m c t h]
  frame_out
  simp only [block6, block7]
  generalize m ((c : Thread nD τ).loc main_arg6) = wsv
  generalize m ((c : Thread nD τ).loc main_arg7) = wvs
  funext y
  canon_tiles x h
  · idx_vars x
    rw [stack1_low wsv wvs y 2 (by decide) x0 x1 h0 h1]
    refine Eq.trans ?_ (sum_pick x1 2 (by decide) fun k => wvs (ix2 x0 k))
    pointwise [k0_pay19, k0_pay9]
  · idx_vars x
    rw [stack1_top wsv wvs y 2 (by decide) x0 x1 h0 h1]
    refine Eq.trans ?_ (sum_pick x1 2 (by decide) fun k => wsv (ix2 x0 k))
    pointwise [k0_pay18, k0_pay8]
  · idx_vars x
    rw [stack1_low wsv wvs y 1 (by decide) x0 x1 h0 h1]
    refine Eq.trans ?_ (sum_pick x1 1 (by decide) fun k => wvs (ix2 x0 k))
    pointwise [k0_pay9]
  · idx_vars x
    rw [stack1_top wsv wvs y 1 (by decide) x0 x1 h0 h1]
    refine Eq.trans ?_ (sum_pick x1 1 (by decide) fun k => wsv (ix2 x0 k))
    pointwise [k0_pay8]
  · idx_vars x
    rw [stack1_low wsv wvs y 0 (by decide) x0 x1 h0 h1]
    refine Eq.trans ?_ (sum_pick x1 0 (by decide) fun k => wvs (ix2 x0 k))
    pointwise [k0_pay9, k0_pay10]
  · idx_vars x
    rw [stack1_top wsv wvs y 0 (by decide) x0 x1 (by omega) h1]
    refine Eq.trans ?_ (sum_pick x1 0 (by decide) fun k => wsv (ix2 x0 k))
    pointwise [k0_pay11, k0_pay8, k0_pay10]

/-- The grid has twenty points. -/
theorem points : cfg0.N = 20 := N_0

/-- After every point the two scratch buffers hold the two weight stacks: the first point lays them out, every later
one leaves them. -/
theorem kept (c : Dev nD) : ∀ (n : ℕ) (h : n < cfg0.N),
    (outsAt0 m c n h).2.1 = stack0 (m ((c : Thread nD τ).loc main_arg4)) (m ((c : Thread nD τ).loc main_arg5))
    ∧ (outsAt0 m c n h).2.2 = stack1 (m ((c : Thread nD τ).loc main_arg6)) (m ((c : Thread nD τ).loc main_arg7)) := by
  intro n
  induction n with
  | zero => exact fun h => ⟨first0 m c ⟨0, h⟩ rfl, first1 m c ⟨0, h⟩ rfl⟩
  | succ n ih =>
    intro h
    have h20 : ¬ (n + 1) % 20 = 0 := by have := points; omega
    rw [outsAt0_B m c ⟨n + 1, h⟩ h20]
    exact ih (Nat.lt_of_succ_lt h)

end Cert.KernelIdeal.Weights
-- ==== Proof.Rows.lean ====
module

public import proofs.«01_k».proof.Proof.Weights

/-! What one grid point reads and writes. Point `t` holds rows `5000 t` to `5000 t + 4999` of the features and of the
attributes, and writes the same rows of the result; an entry of a written row is a sum over the 128 channels of its
row's features against the two weight stacks. -/

@[expose] public section

set_option maxRecDepth 16384

noncomputable section

namespace Cert.KernelIdeal.Rows

open Cert.KernelIdeal Cert.KernelIdeal.Gen Cert.KernelIdeal.Weights Idealize.ShloMosaic Idealize.ShloMosaic.TcCoe
open Idealize.SL.Sem

variable (m : (ℓ : Loc nD τ sig) → Buf (Elt Ideal) ℓ)

/-- The row of the whole array at which row `r` of point `t`'s block lies. -/
def row (t : Fin cfg0.N) (r : Fin 5000) : Fin 100000 :=
  ⟨t.val * 5000 + r, by have h1 := t.isLt; have h2 := points; have h3 := r.isLt; omega⟩

/-- The words of the constant that repeats each attribute over 128 lanes: one where the lane lies in the attribute's
group, zero elsewhere. -/
theorem words : ∀ k : Fin 2048, lit0 k = if (k : ℕ) % 512 / 128 = (k : ℕ) / 512 then 0x3F80#16 else 0#16 := by
  decide +kernel

/-- The repeating constant at attribute `k` and lane `l`. -/
theorem repeat_at (k : Fin 4) (l : Fin 512) :
    (FloatOps.ofBits .bf16 (lit0 (S4x512.rowMajor (ix2 k l))) : Ideal .bf16)
      = if (l : ℕ) / 128 = k then (1 : EReal) else 0 := by
  have hk := k.isLt
  have hl := l.isLt
  have hv : (S4x512.rowMajor (ix2 k l)).val = (k : ℕ) * 512 + l := Shape.rowMajor_val_two _
  generalize hz : (S4x512.rowMajor (ix2 k l)) = z at hv
  have hw : lit0 z = if (l : ℕ) / 128 = k then 0x3F80#16 else 0#16 :=
    (words z).trans (if_congr (by rw [show (z : ℕ) = (k : ℕ) * 512 + l from hv]; omega) rfl rfl)
  refine (congrArg (FloatOps.ofBits (F := Ideal) .bf16) hw).trans ?_
  split
  · pointwise
  · pointwise

/-- The block of scalar features. -/
theorem x0_at (c : Dev nD) (t : Fin cfg0.N) (r : Fin 5000) (u : Fin 128) :
    (iblk m c 0 t (ix2 r u) : EReal) = m ((c : Thread nD τ).loc main_arg0) (ix2 (row t r) u) := by
  blk_ext [iblk, V, idx t, row]

/-- The block of vector features, component first. -/
theorem x1_at (c : Dev nD) (t : Fin cfg0.N) (i : Fin 3) (r : Fin 5000) (u : Fin 128) :
    (iblk m c 1 t (ix3 i r u) : EReal) = m ((c : Thread nD τ).loc main_arg1) (ix3 (row t r) u i) := by
  blk_simp [iblk]
  entry_read
  pointwise
  blk_ext [idx t, row]

/-- The block of attributes, in its first row, is the scalar attribute. -/
theorem y_at (c : Dev nD) (t : Fin cfg0.N) (r : Fin 5000) :
    (iblk m c 2 t (ix3 0 0 r) : EReal) = m ((c : Thread nD τ).loc main_arg2) (ix2 (row t r) 0) := by
  blk_simp [iblk]
  entry_read
  pointwise
  rw [dif_pos (by blk_simp [idx t]; exact Nat.zero_lt_one)]
  blk_ext [idx t, row]

/-- The block of attributes, in its last three rows, is the vector attribute's three components. -/
theorem y1_at (c : Dev nD) (t : Fin cfg0.N) (i : Fin 3) (r : Fin 5000) :
    (iblk m c 2 t (ix3 0 (Fin.succ i) r) : EReal) = m ((c : Thread nD τ).loc main_arg3) (ix2 (row t r) i) := by
  blk_simp [iblk]
  entry_read
  pointwise
  rw [dif_neg (by blk_simp [idx t]; rw [Fin.val_succ]; omega)]
  blk_ext [idx t, row, Fin.val_succ]

/-- The block of the repeating constant. -/
theorem t4_at (c : Dev nD) (t : Fin cfg0.N) (k : Fin 4) (l : Fin 512) :
    (iblk m c 3 t (ix2 k l) : EReal) = if (l : ℕ) / 128 = k then (1 : EReal) else 0 := by
  blk_simp [iblk]
  entry_read
  have e : ((View.whole main_cst).slice (win0_3.rect t)).emb (ix2 k l) = ix2 k l := by
    blk_ext [idx t]
  exact (congrArg (fun z => (FloatOps.ofBits .bf16 (lit0 (S4x512.rowMajor z)) : Ideal .bf16)) e).trans (repeat_at k l)

/-- The block of the bias. -/
theorem b_at (c : Dev nD) (t : Fin cfg0.N) (w : Fin 128) :
    (iblk m c 8 t (ix2 0 w) : EReal) = m ((c : Thread nD τ).loc main_arg8) (ix1 w) := by
  blk_simp [iblk]
  entry_read
  pointwise
  blk_ext [idx t]

/-- A sum over four groups of 128 lanes, group by group. -/
theorem sum_four (f : Fin 512 → EReal) : ∑ k, f k
    = (∑ u : Fin 128, f ⟨u, by omega⟩) + (∑ u : Fin 128, f ⟨128 + u, by omega⟩) + (∑ u : Fin 128, f ⟨256 + u, by omega⟩)
      + ∑ u : Fin 128, f ⟨384 + u, by omega⟩ := by
  rw [Fin.sum_univ_tiles 4 128 rfl f, Fin.sum_univ_four]
  refine congrArg₂ (· + ·) (congrArg₂ (· + ·) (congrArg₂ (· + ·) ?_ ?_) ?_) ?_ <;>
    exact Finset.sum_congr rfl fun u _ => congrArg f (Fin.ext (by simp))

/-- A sum over six groups of 128 lanes, group by group. -/
theorem sum_six (f : Fin 768 → EReal) : ∑ k, f k
    = (∑ u : Fin 128, f ⟨u, by omega⟩) + (∑ u : Fin 128, f ⟨128 + u, by omega⟩) + (∑ u : Fin 128, f ⟨256 + u, by omega⟩)
      + (∑ u : Fin 128, f ⟨384 + u, by omega⟩) + (∑ u : Fin 128, f ⟨512 + u, by omega⟩)
      + ∑ u : Fin 128, f ⟨640 + u, by omega⟩ := by
  rw [Fin.sum_univ_tiles 6 128 rfl f, Fin.sum_univ_six]
  refine congrArg₂ (· + ·) (congrArg₂ (· + ·) (congrArg₂ (· + ·) (congrArg₂ (· + ·) (congrArg₂ (· + ·) ?_ ?_) ?_) ?_) ?_) ?_ <;>
    exact Finset.sum_congr rfl fun u _ => congrArg f (Fin.ext (by simp))

section Payloads

variable (Y : FVec Ideal S1x4x5000 .f32) (T : FVec Ideal S4x512 .bf16)
  (hT : ∀ (k : Fin 4) (l : Fin 512), T (ix2 k l) = if (l : ℕ) / 128 = k then (1 : EReal) else 0)
include hT

/-- Each attribute, repeated over its group of 128 lanes. -/
theorem pay20_at (r : Fin 5000) (k : Fin 4) (l : Fin 512) (h : (l : ℕ) / 128 = k) :
    k0_pay20 (F := Ideal) Y T (ix2 r l) = Y (ix3 0 k r) := by
  pointwise [k0_pay20, hT]
  rw [Finset.sum_eq_single k]
  · rw [if_pos h, mul_one]
  · intro k' _ hk
    rw [if_neg (fun e => hk (Fin.ext (by omega))), mul_zero]
  · intro h'; exact absurd (Finset.mem_univ _) h'

/-- The first group of lanes holds the scalar attribute. -/
theorem pay21_at (r : Fin 5000) (u : Fin 128) : k0_pay21 (F := Ideal) Y T (ix2 r u) = Y (ix3 0 0 r) := by
  pointwise [k0_pay21]
  exact pay20_at Y T hT r 0 _ (by show (u : ℕ) / 128 = 0; omega)

/-- The second group holds the vector attribute's first component. -/
theorem pay22_at (r : Fin 5000) (u : Fin 128) : k0_pay22 (F := Ideal) Y T (ix2 r u) = Y (ix3 0 1 r) := by
  pointwise [k0_pay22]
  exact pay20_at Y T hT r 1 _ (by show (128 + u : ℕ) / 128 = 1; omega)

/-- The third group holds its second component. -/
theorem pay23_at (r : Fin 5000) (u : Fin 128) : k0_pay23 (F := Ideal) Y T (ix2 r u) = Y (ix3 0 2 r) := by
  pointwise [k0_pay23]
  exact pay20_at Y T hT r 2 _ (by show (256 + u : ℕ) / 128 = 2; omega)

/-- The fourth group holds its third component. -/
theorem pay24_at (r : Fin 5000) (u : Fin 128) : k0_pay24 (F := Ideal) Y T (ix2 r u) = Y (ix3 0 3 r) := by
  pointwise [k0_pay24]
  exact pay20_at Y T hT r 3 _ (by show (384 + u : ℕ) / 128 = 3; omega)

variable (X : FVec Ideal S5000x128 .f32) (A0 A1 A2 : FVec Ideal S1x5000x128 .f32)

/-- The invariant part of a written row: the scalar products against `wss`, the three products of vector components
each against the scaled `wvv`, and the bias. -/
theorem left_at (wss wvv : FVec Ideal S128x128 .f32) (B : FVec Ideal S1x128 .f32) (r : Fin 5000) (w : Fin 128) :
    k0_pay1 (F := Ideal) (k0_pay29 Y T X A0 A1 A2 (stack0 wss wvv)) (k0_pay30 B) (ix2 r w)
      = (∑ u : Fin 128, X (ix2 r u) * Y (ix3 0 0 r) * wss (ix2 u w))
        + (∑ u : Fin 128, A0 (ix3 0 r u) * Y (ix3 0 1 r) * (wvv (ix2 u w) * scale))
        + (∑ u : Fin 128, A1 (ix3 0 r u) * Y (ix3 0 2 r) * (wvv (ix2 u w) * scale))
        + (∑ u : Fin 128, A2 (ix3 0 r u) * Y (ix3 0 3 r) * (wvv (ix2 u w) * scale))
        + B (ix2 0 w) := by
  pointwise [k0_pay1, k0_pay30, k0_pay29, k0_pay25, k0_pay26, k0_pay27, k0_pay28, pay21_at Y T hT, pay22_at Y T hT,
    pay23_at Y T hT, pay24_at Y T hT]
  rw [sum_four]
  simp (disch := omega) only [dif_pos, dif_neg, Nat.add_sub_cancel_left]
  refine congrArg₂ (· + ·) (congrArg₂ (· + ·) (congrArg₂ (· + ·) (congrArg₂ (· + ·) ?_ ?_) ?_) ?_) rfl <;>
    refine Finset.sum_congr rfl fun u _ => ?_
  · rw [stack0_top wss wvv _ u w rfl rfl]
  · rw [stack0_low wss wvv _ 0 u w rfl rfl]
  · rw [stack0_low wss wvv _ 1 u w rfl rfl]
    simp only [show 256 + (u : ℕ) - 128 - 128 = u by omega]
  · rw [stack0_low wss wvv _ 2 u w rfl rfl]
    simp only [show 384 + (u : ℕ) - 128 - 128 - 128 = u by omega]

/-- The vector part of a written row, lane by lane: six sums, of which a lane's own component keeps two. -/
theorem right_sum (wsv wvs : FVec Ideal S128x128 .f32) (r : Fin 5000) (j : Fin 384) (v : Fin 128) (hv : (j : ℕ) / 3 = v) :
    k0_pay2 (F := Ideal) (k0_pay21 Y T) (k0_pay22 Y T) (k0_pay23 Y T) (k0_pay24 Y T) (k0_pay25 X) (k0_pay26 A0)
        (k0_pay27 A1) (k0_pay28 A2) (stack1 wsv wvs) (ix2 r j)
      = (∑ u : Fin 128, X (ix2 r u) * Y (ix3 0 1 r) * (if (j : ℕ) % 3 = 0 then wsv (ix2 u v) else 0))
        + (∑ u : Fin 128, X (ix2 r u) * Y (ix3 0 2 r) * (if (j : ℕ) % 3 = 1 then wsv (ix2 u v) else 0))
        + (∑ u : Fin 128, X (ix2 r u) * Y (ix3 0 3 r) * (if (j : ℕ) % 3 = 2 then wsv (ix2 u v) else 0))
        + (∑ u : Fin 128, Y (ix3 0 0 r) * A0 (ix3 0 r u) * (if (j : ℕ) % 3 = 0 then wvs (ix2 u v) else 0))
        + (∑ u : Fin 128, Y (ix3 0 0 r) * A1 (ix3 0 r u) * (if (j : ℕ) % 3 = 1 then wvs (ix2 u v) else 0))
        + (∑ u : Fin 128, Y (ix3 0 0 r) * A2 (ix3 0 r u) * (if (j : ℕ) % 3 = 2 then wvs (ix2 u v) else 0)) := by
  have hb : (j : ℕ) / 3 < 128 := by have := j.isLt; omega
  have hv' : v = ⟨(j : ℕ) / 3, hb⟩ := Fin.ext hv.symm
  rw [hv']
  pointwise [k0_pay2, k0_pay25, k0_pay26, k0_pay27, k0_pay28, pay21_at Y T hT, pay22_at Y T hT, pay23_at Y T hT,
    pay24_at Y T hT]
  rw [sum_six]
  simp (disch := omega) only [dif_pos, dif_neg, Nat.add_sub_cancel_left]
  refine congrArg₂ (· + ·) (congrArg₂ (· + ·) (congrArg₂ (· + ·) (congrArg₂ (· + ·) (congrArg₂ (· + ·) ?_ ?_) ?_) ?_)
    ?_) ?_ <;> refine Finset.sum_congr rfl fun u _ => ?_
  · rw [stack1_top wsv wvs _ 0 (by decide) u j (by show (u : ℕ) = _; omega) rfl]
  · rw [stack1_top wsv wvs _ 1 (by decide) u j rfl rfl]
  · rw [stack1_top wsv wvs _ 2 (by decide) u j rfl rfl]
    simp only [show 256 + (u : ℕ) - 128 - 128 = u by omega]
  · rw [stack1_low wsv wvs _ 0 (by decide) u j rfl rfl]
    simp only [show 384 + (u : ℕ) - 128 - 128 - 128 = u by omega]
  · rw [stack1_low wsv wvs _ 1 (by decide) u j rfl rfl]
    simp only [show 512 + (u : ℕ) - 128 - 128 - 128 - 128 = u by omega]
  · rw [stack1_low wsv wvs _ 2 (by decide) u j rfl rfl]
    simp only [show 640 + (u : ℕ) - 128 - 128 - 128 - 128 - 128 = u by omega]

/-- The vector part of a written row at component `i` of output channel `v`: the scalar features times that component
of the attribute against `wsv`, and the scalar attribute times that component of the features against `wvs`. -/
theorem right_at (wsv wvs : FVec Ideal S128x128 .f32) (r : Fin 5000) (j : Fin 384) (v : Fin 128) (i : Fin 3)
    (hj : (j : ℕ) = 3 * v + i) :
    k0_pay2 (F := Ideal) (k0_pay21 Y T) (k0_pay22 Y T) (k0_pay23 Y T) (k0_pay24 Y T) (k0_pay25 X) (k0_pay26 A0)
        (k0_pay27 A1) (k0_pay28 A2) (stack1 wsv wvs) (ix2 r j)
      = (∑ u : Fin 128, X (ix2 r u) * Y (ix3 0 (Fin.succ i) r) * wsv (ix2 u v))
        + ∑ u : Fin 128, Y (ix3 0 0 r) * (![A0, A1, A2] i) (ix3 0 r u) * wvs (ix2 u v) := by
  have hi := i.isLt
  rw [right_sum Y T hT X A0 A1 A2 wsv wvs r j v (by omega)]
  have hm : (j : ℕ) % 3 = i := by omega
  rw [hm]
  match i with
  | 0 =>
    simp only [Fin.val_zero, if_true, OfNat.zero_ne_ofNat, zero_ne_one, if_false, mul_zero, Finset.sum_const_zero, add_zero]
    rfl
  | 1 =>
    simp only [Fin.val_one, if_true, OfNat.one_ne_ofNat, one_ne_zero, if_false, mul_zero, Finset.sum_const_zero, add_zero,
      zero_add]
    rfl
  | 2 =>
    simp only [Fin.val_two, if_true, OfNat.ofNat_ne_zero, OfNat.ofNat_ne_one, if_false, mul_zero, Finset.sum_const_zero,
      add_zero, zero_add]
    rfl

end Payloads

end Cert.KernelIdeal.Rows
-- ==== Proof.Block.lean ====
module

public import proofs.«01_k».proof.Proof.Rows

/-! The array the kernel leaves: every grid point writes its 5000 rows of one function of the argument arrays, so the
whole result is that function. -/

@[expose] public section

set_option maxRecDepth 16384

noncomputable section

namespace Cert.KernelIdeal.Block

open Cert.KernelIdeal Cert.KernelIdeal.Gen Cert.KernelIdeal.Weights Cert.KernelIdeal.Rows
open Idealize.ShloMosaic Idealize.ShloMosaic.TcCoe Idealize.SL.Sem

section Spec

variable (x0 : FVec Ideal S100000x128 .f32) (x1 : FVec Ideal S100000x128x3 .f32) (y0 : FVec Ideal S100000x1 .f32)
  (y1 : FVec Ideal S100000x3 .f32) (wss wvv wsv wvs : FVec Ideal S128x128 .f32) (b : FVec Ideal S128 .f32)

/-- One component's share of an invariant: its products with the attribute, each against the scaled `wvv`. -/
def share (n : Fin 100000) (w : Fin 128) (i : Fin 3) : EReal :=
  ∑ u : Fin 128, x1 (ix3 n u i) * y1 (ix2 n i) * (wvv (ix2 u w) * scale)

/-- The invariant at row `n` and output channel `w`, as the kernel adds it up. -/
def invariant (n : Fin 100000) (w : Fin 128) : EReal :=
  (∑ u : Fin 128, x0 (ix2 n u) * y0 (ix2 n 0) * wss (ix2 u w)) + share x1 y1 wvv n w 0 + share x1 y1 wvv n w 1
    + share x1 y1 wvv n w 2 + b (ix1 w)

/-- The vector at row `n`, output channel `v` and component `i`, as the kernel adds it up. -/
def vector (n : Fin 100000) (v : Fin 128) (i : Fin 3) : EReal :=
  (∑ u : Fin 128, x0 (ix2 n u) * y1 (ix2 n i) * wsv (ix2 u v))
    + ∑ u : Fin 128, y0 (ix2 n 0) * x1 (ix3 n u i) * wvs (ix2 u v)

/-- The whole result: 128 invariants, then 128 vectors of three components each. -/
def result : FVec Ideal S100000x512 .f32 := fun z =>
  if h : (z 1 : ℕ) < 128 then invariant x0 x1 y0 y1 wss wvv b (z 0) ⟨z 1, h⟩
  else vector x0 x1 y0 y1 wsv wvs (z 0) ⟨((z 1 : ℕ) - 128) / 3, by have h : (z 1 : ℕ) < 512 := (z 1).isLt; omega⟩
    ⟨((z 1 : ℕ) - 128) % 3, Nat.mod_lt _ (by decide)⟩

/-- The result in its first 128 lanes. -/
theorem result_left (z : S100000x512.Idx) (n : Fin 100000) (w : Fin 128) (h0 : z 0 = n) (h1 : (z 1 : ℕ) = w) :
    result x0 x1 y0 y1 wss wvv wsv wvs b z = invariant x0 x1 y0 y1 wss wvv b n w := by
  subst h0
  unfold result
  rw [dif_pos (show (z 1 : ℕ) < 128 from h1 ▸ w.isLt)]
  exact congrArg (invariant x0 x1 y0 y1 wss wvv b (z 0)) (Fin.ext h1)

/-- The result in its last 384 lanes. -/
theorem result_right (z : S100000x512.Idx) (n : Fin 100000) (v : Fin 128) (i : Fin 3) (h0 : z 0 = n)
    (h1 : (z 1 : ℕ) = 128 + (3 * v + i)) :
    result x0 x1 y0 y1 wss wvv wsv wvs b z = vector x0 x1 y0 y1 wsv wvs n v i := by
  subst h0
  have hi := i.isLt
  unfold result
  rw [dif_neg (show ¬ (z 1 : ℕ) < 128 by omega)]
  exact congrArg₂ (vector x0 x1 y0 y1 wsv wvs (z 0)) (Fin.ext (by show ((z 1 : ℕ) - 128) / 3 = v; omega))
    (Fin.ext (by show ((z 1 : ℕ) - 128) % 3 = i; omega))

end Spec

variable (m : (ℓ : Loc nD τ sig) → Buf (Elt Ideal) ℓ)

/-- The result over the contents of device `c`'s argument arrays. -/
abbrev resultOf (c : Dev nD) : FVec Ideal S100000x512 .f32 :=
  result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- Sums of equal numbers are equal. -/
theorem add_congr {a b a' b' : EReal} (h : a = a') (h' : b = b') : a + b = a' + b' := h ▸ h' ▸ rfl

/-- Products of equal numbers are equal. -/
theorem mul_congr {a b a' b' : EReal} (h : a = a') (h' : b = b') : a * b = a' * b' := h ▸ h' ▸ rfl

/-- Sums over the 128 channels are equal whose terms have equal first factors and the same second ones. -/
theorem sum_mul_congr {a a' k : Fin 128 → EReal} (h : ∀ u, a u = a' u) : ∑ u, a u * k u = ∑ u, a' u * k u :=
  Finset.sum_congr rfl fun u _ => mul_congr (h u) rfl

section Pieces

variable (c : Dev nD) (t : Fin cfg0.N) (A0 A1 A2 : FVec Ideal S1x5000x128 .f32)
  (hA : ∀ (i : Fin 3) (r : Fin 5000) (u : Fin 128),
    (![A0, A1, A2] i) (ix3 0 r u) = m ((c : Thread nD τ).loc main_arg1) (ix3 (row t r) u i))
include hA

/-- What point `t` stores in its first 128 lanes is the result's invariants. -/
theorem left_piece (r : Fin 5000) (w : Fin 128) (y : S5000x512.Idx) (h0 : (y 0 : ℕ) = r) (h1 : (y 1 : ℕ) = w) :
    k0_pay1 (F := Ideal) (k0_pay29 (iblk m c 2 t) (iblk m c 3 t) (iblk m c 0 t) A0 A1 A2
        (stack0 (m ((c : Thread nD τ).loc main_arg4)) (m ((c : Thread nD τ).loc main_arg5)))) (k0_pay30 (iblk m c 8 t)) (ix2 r w)
      = resultOf m c (ix2 (row t (y 0)) (y 1)) := by
  obtain rfl : y 0 = r := Fin.ext h0
  refine (left_at (iblk m c 2 t) (iblk m c 3 t) (t4_at m c t) (iblk m c 0 t) A0 A1 A2 _ _ (iblk m c 8 t) _ w).trans ?_
  refine Eq.trans ?_ (result_left _ _ _ _ _ _ _ _ _ (ix2 (row t (y 0)) (y 1)) (row t (y 0)) w rfl h1).symm
  refine add_congr (add_congr (add_congr (add_congr (sum_mul_congr fun u => ?_) (sum_mul_congr fun u => ?_))
    (sum_mul_congr fun u => ?_)) (sum_mul_congr fun u => ?_)) (b_at m c t w)
  · exact mul_congr (x0_at m c t (y 0) u) (y_at m c t (y 0))
  · exact mul_congr (hA 0 (y 0) u) (y1_at m c t 0 (y 0))
  · exact mul_congr (hA 1 (y 0) u) (y1_at m c t 1 (y 0))
  · exact mul_congr (hA 2 (y 0) u) (y1_at m c t 2 (y 0))

/-- What point `t` stores in its last 384 lanes is the result's vectors. -/
theorem right_piece (r : Fin 5000) (j : Fin 384) (y : S5000x512.Idx) (h0 : (y 0 : ℕ) = r) (h1 : (y 1 : ℕ) = 128 + j) :
    k0_pay2 (F := Ideal) (k0_pay21 (iblk m c 2 t) (iblk m c 3 t)) (k0_pay22 (iblk m c 2 t) (iblk m c 3 t))
        (k0_pay23 (iblk m c 2 t) (iblk m c 3 t)) (k0_pay24 (iblk m c 2 t) (iblk m c 3 t)) (k0_pay25 (iblk m c 0 t))
        (k0_pay26 A0) (k0_pay27 A1) (k0_pay28 A2)
        (stack1 (m ((c : Thread nD τ).loc main_arg6)) (m ((c : Thread nD τ).loc main_arg7))) (ix2 r j)
      = resultOf m c (ix2 (row t (y 0)) (y 1)) := by
  have hj := j.isLt
  obtain rfl : y 0 = r := Fin.ext h0
  have e : (j : ℕ) = 3 * ((⟨(j : ℕ) / 3, by omega⟩ : Fin 128) : ℕ)
      + ((⟨(j : ℕ) % 3, Nat.mod_lt _ (by decide)⟩ : Fin 3) : ℕ) := by
    show (j : ℕ) = 3 * (j / 3) + j % 3
    omega
  revert e
  generalize (⟨(j : ℕ) / 3, _⟩ : Fin 128) = v
  generalize (⟨(j : ℕ) % 3, _⟩ : Fin 3) = i
  intro e
  refine (right_at (iblk m c 2 t) (iblk m c 3 t) (t4_at m c t) (iblk m c 0 t) A0 A1 A2 _ _ _ j v i e).trans ?_
  refine Eq.trans ?_ (result_right _ _ _ _ _ _ _ _ _ (ix2 (row t (y 0)) (y 1)) (row t (y 0)) v i rfl (e ▸ h1)).symm
  refine add_congr (sum_mul_congr fun u => ?_) (sum_mul_congr fun u => ?_)
  · exact mul_congr (x0_at m c t (y 0) u) (y1_at m c t i (y 0))
  · exact mul_congr (y_at m c t (y 0)) (hA i (y 0) u)

end Pieces

/-- Every point writes its rows of the result: the later points read the two stacks as the first point left them. -/
theorem writtenB (c : Dev nD) (t : Fin cfg0.N) (hB : ¬ t.val % 20 = 0) (y : S5000x512.Idx) :
    (outsAt0 m c t.val t.isLt).1 y = resultOf m c (ix2 (row t (y 0)) (y 1)) := by
  have ht : 0 < t.val := by omega
  rw [outsAt0_B m c t hB]
  obtain ⟨k0, k1⟩ := kept m c (t.val - 1) (by have := t.isLt; omega)
  simp only [k0, k1]
  frame_out
  generalize hW : View.read (Elt Ideal) (View.whole cc0_scratch0) _ = W
  generalize hV : View.read (Elt Ideal) (View.whole cc0_scratch1) _ = V
  obtain rfl : W = stack0 (m ((c : Thread nD τ).loc main_arg4)) (m ((c : Thread nD τ).loc main_arg5)) :=
    hW.symm.trans (Memref.IsWhole.read_unread _ _)
  obtain rfl : V = stack1 (m ((c : Thread nD τ).loc main_arg6)) (m ((c : Thread nD τ).loc main_arg7)) :=
    hV.symm.trans (Memref.IsWhole.read_unread _ _)
  clear hW hV
  canon_tiles x h using View.cover_of_tiledBy _ ![5000, 128] (by sl_kernel_rfl) y
  · idx_vars x
    refine right_piece m c t _ _ _ (fun i r u => ?_) x0 x1 y h0 h1
    fin_cases i
    all_goals
      refine Eq.trans ?_ (x1_at m c t _ r u)
      pointwise []
  · idx_vars x
    refine left_piece m c t _ _ _ (fun i r u => ?_) x0 x1 y h0 h1
    fin_cases i
    all_goals
      refine Eq.trans ?_ (x1_at m c t _ r u)
      pointwise []

/-- The first point writes its rows of the result: it reads each stack back as it has just stored it. -/
theorem writtenA (c : Dev nD) (t : Fin cfg0.N) (hA : t.val % 20 = 0) (y : S5000x512.Idx) :
    (outsAt0 m c t.val t.isLt).1 y = resultOf m c (ix2 (row t (y 0)) (y 1)) := by
  rw [outsAt0_A m c t hA]
  frame_out
  generalize hW : View.readCov (Val := Elt Ideal) (View.whole cc0_scratch0) _ _ = W
  generalize hV : View.readCov (Val := Elt Ideal) (View.whole cc0_scratch1) _ _ = V
  have hW' : W = stack0 (m ((c : Thread nD τ).loc main_arg4)) (m ((c : Thread nD τ).loc main_arg5)) := by
    rw [← hW, ← first0 m c t hA, outsAt0_A m c t hA]
    frame_out
    rw [View.readCov_eq_canon']
    funext j
    refine congrArg (View.canon _) ?_
    funext a
    exact Fin.ext ((Rect.idx_unit_val _ _ _ j a).trans (by fin_cases a <;> exact Nat.zero_add _))
  have hV' : V = stack1 (m ((c : Thread nD τ).loc main_arg6)) (m ((c : Thread nD τ).loc main_arg7)) := by
    rw [← hV, ← first1 m c t hA, outsAt0_A m c t hA]
    frame_out
    rw [View.readCov_eq_canon']
    funext j
    refine congrArg (View.canon _) ?_
    funext a
    exact Fin.ext ((Rect.idx_unit_val _ _ _ j a).trans (by fin_cases a <;> exact Nat.zero_add _))
  clear hW hV
  subst hW' hV'
  canon_tiles x h using View.cover_of_tiledBy _ ![5000, 128] (by sl_kernel_rfl) y
  · idx_vars x
    refine right_piece m c t _ _ _ (fun i r u => ?_) x0 x1 y h0 h1
    fin_cases i
    all_goals
      refine Eq.trans ?_ (x1_at m c t _ r u)
      pointwise []
  · idx_vars x
    refine left_piece m c t _ _ _ (fun i r u => ?_) x0 x1 y h0 h1
    fin_cases i
    all_goals
      refine Eq.trans ?_ (x1_at m c t _ r u)
      pointwise []

/-- The array the kernel leaves is the result. -/
theorem final (c : Dev nD) : Cert.KernelIdeal.Value.G9 m c = resultOf m c := by
  rw [← Cert.KernelIdeal.Value.final9 m c]
  refine (dats m 0 c).arrAt_eq_of_covers 9 _ (by decide +kernel) fun t _ y => ?_
  blk_simp
  rw [after0_9]
  refine Eq.trans (b := resultOf m c (ix2 (row t (y 0)) (y 1))) ?_ ?_
  · by_cases h : t.val % 20 = 0
    · exact writtenA m c t h y
    · exact writtenB m c t h y
  · blk_ext [idx t, row]

end Cert.KernelIdeal.Block
-- ==== Proof.Finite.lean ====
module

public import proofs.«01_k».proof.Proof.Block
public import proofs.«01_k».proof.Proof.Gen.Pre_finite_vectors

/-! What finite arrays give: the precondition makes every entry of three arrays a real number, and among real numbers the
product with a sum is the sum of the products. -/

@[expose] public section

set_option maxRecDepth 16384

noncomputable section

namespace Cert.KernelIdeal.Finite

open Cert.KernelIdeal.Weights Idealize.ShloMosaic

/-- The f32 word of infinity. -/
theorem word_infinity : (Ideal.ofBits .f32 0x7F800000#32 : EReal) = ⊤ := by
  simp [Ideal.ofBits, Ideal.ieee]

/-- A number whose absolute value compares below infinity is real. -/
theorem real_of_below {x : EReal} (h : Ideal.cmp .olt (max x (-x)) ⊤ = 1#1) : ∃ r : ℝ, x = r := by
  have h' : max x (-x) < ⊤ := by
    by_contra hn
    simp [Ideal.cmp, hn] at h
  rcases max_lt_iff.mp h' with ⟨ht, hb⟩
  induction x with
  | bot => simp at hb
  | top => simp at ht
  | coe r => exact ⟨r, rfl⟩

/-- The cast of a sum of reals is the sum of the casts. -/
theorem coe_sum {n : ℕ} (f : Fin n → ℝ) : ((∑ u, f u : ℝ) : EReal) = ∑ u, (f u : EReal) :=
  map_sum (⟨⟨Real.toEReal, rfl⟩, EReal.coe_add⟩ : ℝ →+ EReal) f Finset.univ

/-- Among reals, the weighted sum of the products' sums is the sum over the components of the weighted products. -/
theorem components (a : Fin 128 → Fin 3 → ℝ) (y : Fin 3 → ℝ) (k : Fin 128 → ℝ) :
    (∑ u : Fin 128, (∑ i : Fin 3, (a u i : EReal) * (y i : EReal)) * scale * (k u : EReal))
      = (∑ u : Fin 128, (a u 0 : EReal) * (y 0 : EReal) * ((k u : EReal) * scale))
        + (∑ u : Fin 128, (a u 1 : EReal) * (y 1 : EReal) * ((k u : EReal) * scale))
        + ∑ u : Fin 128, (a u 2 : EReal) * (y 2 : EReal) * ((k u : EReal) * scale) := by
  simp only [Weights.scale, Fin.sum_univ_three, ← EReal.coe_mul, ← EReal.coe_add, ← coe_sum]
  refine congrArg Real.toEReal ?_
  rw [← Finset.sum_add_distrib, ← Finset.sum_add_distrib]
  exact Finset.sum_congr rfl fun u _ => by ring

section Pre

open Cert.Pre_finite_vectors

variable (x0 : FVec Ideal S100000x128 .f32) (x1 : FVec Ideal S100000x128x3 .f32) (y0 : FVec Ideal S100000x1 .f32)
  (y1 : FVec Ideal S100000x3 .f32) (wss wvv wsv wvs : FVec Ideal S128x128 .f32) (b : FVec Ideal S128 .f32)

/-- Under the precondition every vector feature is real. -/
theorem features_real (h : (fn (F := Ideal) x0 x1 y0 y1 wss wvv wsv wvs b).1 = fun _ => 1#1) (z : S100000x128x3.Idx) :
    ∃ r : ℝ, x1 z = r := by
  refine real_of_below (Eq.trans ?_ (congrFun h z))
  rw [← word_infinity]
  rfl

/-- Under the precondition every vector attribute is real. -/
theorem attributes_real (h : (fn (F := Ideal) x0 x1 y0 y1 wss wvv wsv wvs b).2.1 = fun _ => 1#1) (z : S100000x3.Idx) :
    ∃ r : ℝ, y1 z = r := by
  refine real_of_below (Eq.trans ?_ (congrFun h z))
  rw [← word_infinity]
  rfl

/-- Under the precondition every weight of the vectors' invariant is real. -/
theorem weights_real (h : (fn (F := Ideal) x0 x1 y0 y1 wss wvv wsv wvs b).2.2 = fun _ => 1#1) (z : S128x128.Idx) :
    ∃ r : ℝ, wvv z = r := by
  refine real_of_below (Eq.trans ?_ (congrFun h z))
  rw [← word_infinity]
  rfl

end Pre

end Cert.KernelIdeal.Finite
-- ==== Proof.Reference.lean ====
module

public import proofs.«01_k».proof.Proof.Block
public import proofs.«01_k».proof.Proof.Gen.ReferenceIdeal.Run
public import proofs.«01_k».proof.Proof.Gen.ReferenceIdeal.Read

/-! The reference's result, entry by entry. -/

@[expose] public section

set_option maxRecDepth 16384

noncomputable section

namespace Cert.ReferenceIdeal.Entries

open Cert.ReferenceIdeal Cert.ReferenceIdeal.Gen Cert.ReferenceIdeal.Read Cert.KernelIdeal.Weights Idealize.ShloMosaic

/-- The f32 word of three. -/
theorem word_three : (Ideal.ofBits .f32 0x40400000#32 : EReal) = ((3 : ℝ) : EReal) := by
  simp [Ideal.ofBits, Ideal.ieee]
  rw [← EReal.coe_mul]
  norm_num

/-- One over the square root of three is the scale the kernel names. -/
theorem inverse_root : Ideal.div 1 (Ideal.sqrt (Ideal.ofBits .f32 0x40400000#32)) = scale := by
  rw [word_three, Ideal.sqrt_coe, if_neg (by norm_num), Ideal.div_coe (by positivity), one_mul, one_div]

variable (x0 : FVec Ideal S100000x128 .f32) (x1 : FVec Ideal S100000x128x3 .f32) (y0 : FVec Ideal S100000x1 .f32)
  (y1 : FVec Ideal S100000x3 .f32) (wss wvv wsv wvs : FVec Ideal S128x128 .f32) (b : FVec Ideal S128 .f32)

/-- The reference's invariant at row `n` and output channel `w`. -/
theorem invariant_at (n : Fin 100000) (w : Fin 128) :
    val_main_v20 (F := Ideal) x0 x1 y0 y1 wss wvv b (ix2 n w)
      = (∑ u : Fin 128, x0 (ix2 n u) * y0 (ix2 n 0) * wss (ix2 u w))
        + (∑ u : Fin 128, (∑ i : Fin 3, x1 (ix3 n u i) * y1 (ix2 n i)) * scale * wvv (ix2 u w)) + b (ix1 w) := by
  pointwise [val_main_v20, val_main_v17, val_main_v15, val_main_v16, val_main_v3, val_main_v2, val_main_v6, val_main_v4, val_main_v5, val_main_v1, val_main_v0, val_main_cst, val_main_cst_0, val_main_v19, val_main_v18]
  simp only [inverse_root]

/-- The reference's vector at row `n`, output channel `v` and component `i`. -/
theorem vector_at (n : Fin 100000) (v : Fin 128) (i : Fin 3) :
    val_main_v25 (F := Ideal) x0 x1 y0 y1 wsv wvs (ix3 n v i)
      = (∑ u : Fin 128, wsv (ix2 u v) * (x0 (ix2 n u) * y1 (ix2 n i)))
        + ∑ u : Fin 128, wvs (ix2 u v) * (x1 (ix3 n u i) * y0 (ix2 n 0)) := by
  pointwise [val_main_v25, val_main_v24, val_main_v23, val_main_v22, val_main_v21, val_main_v14, val_main_v13, val_main_v12, val_main_v11, val_main_v10, val_main_v9, val_main_v8, val_main_v7]

/-- The reference's first 128 lanes are the invariants. -/
theorem lanes_left (n : Fin 100000) (j : Fin 512) (w : Fin 128) (h : (j : ℕ) = w) :
    val_main_v27 (F := Ideal) x0 x1 y0 y1 wss wvv wsv wvs b (ix2 n j)
      = val_main_v20 (F := Ideal) x0 x1 y0 y1 wss wvv b (ix2 n w) := by
  have hw := w.isLt
  unfold val_main_v27
  generalize val_main_v20 (F := Ideal) x0 x1 y0 y1 wss wvv b = A
  generalize val_main_v26 (F := Ideal) x0 x1 y0 y1 wsv wvs = B
  pointwise
  rw [dif_pos (show (j : ℕ) < 128 from h ▸ hw)]
  pointwise [h]

/-- The reference's last 384 lanes are the vectors, three components each. -/
theorem lanes_right (n : Fin 100000) (j : Fin 512) (v : Fin 128) (i : Fin 3) (h : (j : ℕ) = 128 + (3 * v + i)) :
    val_main_v27 (F := Ideal) x0 x1 y0 y1 wss wvv wsv wvs b (ix2 n j)
      = val_main_v25 (F := Ideal) x0 x1 y0 y1 wsv wvs (ix3 n v i) := by
  have hv := v.isLt
  have hi := i.isLt
  unfold val_main_v27 val_main_v26
  generalize val_main_v20 (F := Ideal) x0 x1 y0 y1 wss wvv b = A
  generalize val_main_v25 (F := Ideal) x0 x1 y0 y1 wsv wvs = B
  pointwise
  rw [dif_neg (show ¬ (j : ℕ) < 128 by omega)]
  pointwise [h]
  exact congrArg₂ (fun v i => B (ix3 n v i)) (Fin.ext (by show (3 * (v : ℕ) + i) / 3 = v; omega))
    (Fin.ext (by show (3 * (v : ℕ) + i) % 3 = i; omega))

end Cert.ReferenceIdeal.Entries
-- ==== Proof.Equal.lean ====
module

public import proofs.«01_k».proof.Proof.Finite
public import proofs.«01_k».proof.Proof.Reference

/-! The reference's result is the function that the kernel computes. -/

@[expose] public section

set_option maxRecDepth 16384

noncomputable section

namespace Cert.KernelIdeal.Equal

open Cert.KernelIdeal.Weights Cert.KernelIdeal.Block Cert.KernelIdeal.Finite Cert.ReferenceIdeal
open Cert.ReferenceIdeal.Read Cert.ReferenceIdeal.Entries Idealize.ShloMosaic

variable (x0 : FVec Ideal S100000x128 .f32) (x1 : FVec Ideal S100000x128x3 .f32) (y0 : FVec Ideal S100000x1 .f32)
  (y1 : FVec Ideal S100000x3 .f32) (wss wvv wsv wvs : FVec Ideal S128x128 .f32) (b : FVec Ideal S128 .f32)

/-- The reference's invariants are the kernel's, where the features, the attributes and the weights they meet are real:
there the sum over the components and the scale may be moved past the product with the weight. -/
theorem invariants (hx : ∀ z, ∃ r : ℝ, x1 z = r) (hy : ∀ z, ∃ r : ℝ, y1 z = r) (hw : ∀ z, ∃ r : ℝ, wvv z = r)
    (n : Fin 100000) (w : Fin 128) :
    val_main_v20 (F := Ideal) x0 x1 y0 y1 wss wvv b (ix2 n w) = invariant x0 x1 y0 y1 wss wvv b n w := by
  choose fx ex using hx
  choose fy ey using hy
  choose fw ew using hw
  rw [invariant_at]
  unfold invariant share
  refine add_congr ?_ rfl
  refine Eq.trans (add_congr rfl ?_) ((add_assoc _ _ _).symm.trans (add_congr (add_assoc _ _ _).symm rfl))
  simp only [ex, ey, ew]
  exact components (fun u i => fx (ix3 n u i)) (fun i => fy (ix2 n i)) fun u => fw (ix2 u w)

/-- The reference's vectors are the kernel's: each product is the same three factors in another order. -/
theorem vectors (n : Fin 100000) (v : Fin 128) (i : Fin 3) :
    val_main_v25 (F := Ideal) x0 x1 y0 y1 wsv wvs (ix3 n v i) = vector x0 x1 y0 y1 wsv wvs n v i := by
  rw [vector_at]
  unfold vector
  refine add_congr (Finset.sum_congr rfl fun u _ => mul_comm _ _) (Finset.sum_congr rfl fun u _ => ?_)
  exact (mul_comm _ _).trans (mul_congr (mul_comm _ _) rfl)

/-- The reference's result is the kernel's. -/
theorem results (hx : ∀ z, ∃ r : ℝ, x1 z = r) (hy : ∀ z, ∃ r : ℝ, y1 z = r) (hw : ∀ z, ∃ r : ℝ, wvv z = r) :
    val_main_v27 (F := Ideal) x0 x1 y0 y1 wss wvv wsv wvs b = result x0 x1 y0 y1 wss wvv wsv wvs b := by
  funext z
  idx_vars z
  by_cases h : (z1 : ℕ) < 128
  · rw [lanes_left x0 x1 y0 y1 wss wvv wsv wvs b z0 z1 ⟨z1, h⟩ rfl, invariants x0 x1 y0 y1 wss wvv b hx hy hw]
    exact (result_left x0 x1 y0 y1 wss wvv wsv wvs b (ix2 z0 z1) z0 ⟨z1, h⟩ rfl rfl).symm
  · have hz := z1.isLt
    have e : (z1 : ℕ) = 128 + (3 * ((⟨((z1 : ℕ) - 128) / 3, by omega⟩ : Fin 128) : ℕ)
        + ((⟨((z1 : ℕ) - 128) % 3, Nat.mod_lt _ (by decide)⟩ : Fin 3) : ℕ)) := by
      show (z1 : ℕ) = 128 + (3 * ((z1 - 128) / 3) + (z1 - 128) % 3)
      omega
    rw [lanes_right x0 x1 y0 y1 wss wvv wsv wvs b z0 z1 _ _ e, vectors]
    exact (result_right x0 x1 y0 y1 wss wvv wsv wvs b (ix2 z0 z1) z0 _ _ rfl e).symm

/-- The reference's result of arrays equal to the kernel's is the kernel's result. -/
theorem results_agree {x0' : FVec Ideal S100000x128 .f32} {x1' : FVec Ideal S100000x128x3 .f32}
    {y0' : FVec Ideal S100000x1 .f32} {y1' : FVec Ideal S100000x3 .f32} {wss' wvv' wsv' wvs' : FVec Ideal S128x128 .f32}
    {b' : FVec Ideal S128 .f32} (a0 : x0' = x0) (a1 : x1' = x1) (a2 : y0' = y0) (a3 : y1' = y1) (a4 : wss' = wss)
    (a5 : wvv' = wvv) (a6 : wsv' = wsv) (a7 : wvs' = wvs) (a8 : b' = b) (hx : ∀ z, ∃ r : ℝ, x1 z = r)
    (hy : ∀ z, ∃ r : ℝ, y1 z = r) (hw : ∀ z, ∃ r : ℝ, wvv z = r) :
    val_main_v27 (F := Ideal) x0' x1' y0' y1' wss' wvv' wsv' wvs' b' = result x0 x1 y0 y1 wss wvv wsv wvs b := by
  subst a0 a1 a2 a3 a4 a5 a6 a7 a8
  exact results x0' x1' y0' y1' wss' wvv' wsv' wvs' b' hx hy hw

end Cert.KernelIdeal.Equal
-- ==== Proof.lean ====
module

public import proofs.«01_k».proof.Defs
public import proofs.«01_k».proof.Proof.Gen.Kernel
public import proofs.«01_k».proof.Proof.Gen.Kernel.Frame
public import proofs.«01_k».proof.Proof.Gen.KernelIdeal.Value
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_vectors
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments as they were and every counter at zero. -/
theorem reference_quiescent : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On the extended reals, from finite vector features, vector attributes and weights of their invariant, the kernel and
the reference end with the same result, and each leaves its arguments as they were. -/
theorem values : Cert.algebraic_KernelIdeal_ReferenceIdeal_pre_finite_vectors := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6, a7, a8⟩ := hagree c
  obtain ⟨hx, hy, hw⟩ := hpre c
  have rx := Cert.KernelIdeal.Finite.features_real _ _ _ _ _ _ _ _ _ hx
  have ry := Cert.KernelIdeal.Finite.attributes_real _ _ _ _ _ _ _ _ _ hy
  have rw := Cert.KernelIdeal.Finite.weights_real _ _ _ _ _ _ _ _ _ hw
  refine (h c).1.trans ?_
  refine (Cert.ReferenceIdeal.Read.val_main_v27_eq _ _ _ _ _ _ _ _ _).trans ?_
  refine Eq.trans ?_ (Cert.KernelIdeal.Block.final m c).symm
  exact Cert.KernelIdeal.Equal.results_agree _ _ _ _ _ _ _ _ _ a0 a1 a2 a3 a4 a5 a6 a7 a8 rx ry rw

/-- All the claims. -/
theorem claim : Cert.Claim := ⟨Cert.Kernel.Gen.facts, Cert.KernelIdeal.Gen.facts, Cert.ReferenceIdeal.Gen.facts, Cert.Pre_finite_vectors.Gen.facts,
  fun m ρ _ => Cert.Kernel.Gen.frame m ρ,
  fun m ρ _ => Cert.KernelIdeal.Gen.frame m ρ,
  fun m ρ _ => Cert.KernelIdeal.Gen.frame m ρ,
  reference_quiescent,
  fun m ρ _ => reference_quiescent m ρ trivial,
  IdealRules.named_const.statement Cert.KernelIdeal.κ "inv_sqrt3" .f32 0x3F13CD3A#32 _ rfl,
  values⟩

end Cert.Proof

end
